-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S256x4096 : Shape := ⟨2, ![256, 4096]⟩
abbrev S256x4095 : Shape := ⟨2, ![256, 4095]⟩
abbrev S256x1 : Shape := ⟨2, ![256, 1]⟩
abbrev S256x4094 : Shape := ⟨2, ![256, 4094]⟩
abbrev S256x2 : Shape := ⟨2, ![256, 2]⟩
abbrev S256x4092 : Shape := ⟨2, ![256, 4092]⟩
abbrev S256x4 : Shape := ⟨2, ![256, 4]⟩
abbrev S256x7 : Shape := ⟨2, ![256, 7]⟩
abbrev S256x4089 : Shape := ⟨2, ![256, 4089]⟩
abbrev S256x6 : Shape := ⟨2, ![256, 6]⟩
abbrev S256x4090 : Shape := ⟨2, ![256, 4090]⟩

abbrev nBuf : Space → Nat
  | .hbm => 2
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x4096 : Shape := ⟨2, ![16384, 4096]⟩
abbrev S16384x512x8 : Shape := ⟨3, ![16384, 512, 8]⟩
abbrev S_ : Shape := ⟨0, ![]⟩
abbrev S16384x512 : Shape := ⟨2, ![16384, 512]⟩
abbrev S8 : Shape := ⟨1, ![8]⟩
abbrev S1x1x8 : Shape := ⟨3, ![1, 1, 8]⟩
abbrev S16384x512x1 : Shape := ⟨3, ![16384, 512, 1]⟩
abbrev S16384x512x8x1 : Shape := ⟨4, ![16384, 512, 8, 1]⟩
abbrev S1 : Shape := ⟨1, ![1]⟩
abbrev S1x1x1x1 : Shape := ⟨4, ![1, 1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x512x8, .f32⟩
  | .hbm, ⟨2, _⟩ => ⟨S16384x512x8, .i32⟩
  | .hbm, ⟨3, _⟩ => ⟨S_, .f32⟩
  | .hbm, ⟨4, _⟩ => ⟨S_, .i32⟩
  | .hbm, ⟨5, _⟩ => ⟨S16384x512, .f32⟩
  | .hbm, ⟨6, _⟩ => ⟨S16384x512, .i32⟩
  | .hbm, ⟨7, _⟩ => ⟨S8, .i32⟩
  | .hbm, ⟨8, _⟩ => ⟨S1x1x8, .i32⟩
  | .hbm, ⟨9, _⟩ => ⟨S16384x512x1, .i32⟩
  | .hbm, ⟨10, _⟩ => ⟨S16384x512x8, .i32⟩
  | .hbm, ⟨11, _⟩ => ⟨S16384x512x8, .i32⟩
  | .hbm, ⟨12, _⟩ => ⟨S16384x512x8, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16384x512x8, .i32⟩
  | .hbm, ⟨20, _⟩ => ⟨S16384x512x8, .i32⟩
  | .hbm, ⟨21, _⟩ => ⟨S_, .i32⟩
  | .hbm, ⟨22, _⟩ => ⟨S16384x512x8, .i32⟩
  | .hbm, ⟨23, _⟩ => ⟨S16384x512x8, .i1⟩
  | .hbm, ⟨24, _⟩ => ⟨S_, .i32⟩
  | .hbm, ⟨25, _⟩ => ⟨S16384x512x8, .i32⟩
  | .hbm, ⟨26, _⟩ => ⟨S16384x512x8, .i1⟩
  | .hbm, ⟨27, _⟩ => ⟨S_, .i32⟩
  | .hbm, ⟨28, _⟩ => ⟨S_, .i1⟩
  | .hbm, ⟨29, _⟩ => ⟨S16384x512x8, .i1⟩
  | .hbm, ⟨30, _⟩ => ⟨S16384x512x8, .i1⟩
  | .hbm, ⟨31, _⟩ => ⟨S16384x512x8, .i1⟩
  | .hbm, ⟨32, _⟩ => ⟨S16384x512x8, .i32⟩
  | .hbm, ⟨33, _⟩ => ⟨S16384x512x8, .i32⟩
  | .hbm, ⟨34, _⟩ => ⟨S16384x512x8, .i32⟩
  | .hbm, ⟨35, _⟩ => ⟨S_, .i32⟩
  | .hbm, ⟨36, _⟩ => ⟨S16384x512x8, .i32⟩
  | .hbm, ⟨37, _⟩ => ⟨S16384x512x8, .i1⟩
  | .hbm, ⟨38, _⟩ => ⟨S_, .i32⟩
  | .hbm, ⟨39, _⟩ => ⟨S16384x512x8, .i32⟩
  | .hbm, ⟨40, _⟩ => ⟨S16384x512x8, .i32⟩
  | .hbm, ⟨41, _⟩ => ⟨S16384x512x8, .i32⟩
  | .hbm, ⟨42, _⟩ => ⟨S16384x512x8x1, .i32⟩
  | .hbm, ⟨43, _⟩ => ⟨S1, .i32⟩
  | .hbm, ⟨44, _⟩ => ⟨S_, .i32⟩
  | .hbm, ⟨45, _⟩ => ⟨S16384x512x8x1, .i32⟩
  | .hbm, ⟨46, _⟩ => ⟨S16384x512x8x1, .i1⟩
  | .hbm, ⟨47, _⟩ => ⟨S1x1x1x1, .i32⟩
  | .hbm, ⟨48, _⟩ => ⟨S16384x512x8x1, .i32⟩
  | .hbm, ⟨49, _⟩ => ⟨S16384x512x8x1, .i1⟩
  | .hbm, ⟨50, _⟩ => ⟨S16384x512x8x1, .i1⟩
  | .hbm, ⟨51, _⟩ => ⟨S_, .i1⟩
  | .hbm, ⟨52, _⟩ => ⟨S16384x512x8, .i1⟩
  | .hbm, ⟨53, _⟩ => ⟨S16384x512x8, .f32⟩
  | .hbm, ⟨54, _⟩ => ⟨S_, .f32⟩
  | .hbm, ⟨55, _⟩ => ⟨S16384x512x8, .f32⟩
  | .hbm, ⟨56, _⟩ => ⟨S16384x512x8, .f32⟩
  | .hbm, ⟨57, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_call1_c : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_v5 : Ref sig .tc := ⟨.hbm, 22, rfl⟩
abbrev main_call1_v6 : Ref sig .tc := ⟨.hbm, 23, rfl⟩
abbrev main_call1_c_2 : Ref sig .tc := ⟨.hbm, 24, rfl⟩
abbrev main_call1_v7 : Ref sig .tc := ⟨.hbm, 25, rfl⟩
abbrev main_call1_v8 : Ref sig .tc := ⟨.hbm, 26, rfl⟩
abbrev main_call1_c_3 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_v8 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v9 : Ref sig .tc := ⟨.hbm, 56, rfl⟩
abbrev main_v10 : Ref sig .tc := ⟨.hbm, 57, rfl⟩

abbrev nD : Nat := 1
abbrev τ : Topo := Topo.v7x

variable {F : FTy → Type} [FloatOps F]
-- ==== Proof.Group.lean ====
/-
  A group of eight numbers, by itself: its first greatest place, and what three rounds of exchange at the distances
  1, 2 and 4 make of the eight lanes of a group. Nothing here speaks of a program.
-/
module

public import Idealize.ShloMosaic.PureOps

@[expose] public section

noncomputable section

namespace Cert.Group

open Idealize.ShloMosaic

/-! ## The first greatest place -/

section First
variable {β : Type} [LinearOrder β]

/-- `d` is the first place at which `g` is greatest: nothing exceeds `g d`, and everything before `d` is less. -/
def IsFirstMax (g : Fin 8 → β) (d : Fin 8) : Prop := (∀ j, g j ≤ g d) ∧ ∀ j, j < d → g j < g d

/-- A group has a first greatest place. -/
theorem exists_firstMax (g : Fin 8 → β) : ∃ d, IsFirstMax g d := by
  obtain ⟨m, -, hm⟩ := Finset.exists_max_image Finset.univ g ⟨0, Finset.mem_univ 0⟩
  have hne : (Finset.univ.filter fun d => ∀ j, g j ≤ g d).Nonempty := ⟨m, by simpa using hm⟩
  have hd := (Finset.mem_filter.1 (Finset.min'_mem _ hne)).2
  refine ⟨_, hd, fun j hj => lt_of_le_of_ne (hd j) fun e => not_le.2 hj (Finset.min'_le _ j ?_)⟩
  simpa [e] using hd

/-- It has only one. -/
theorem IsFirstMax.unique {g : Fin 8 → β} {d e : Fin 8} (hd : IsFirstMax g d) (he : IsFirstMax g e) : d = e := by
  rcases lt_trichotomy d e with h | h | h
  · exact absurd (hd.1 e) (not_le.2 (he.2 d h))
  · exact h
  · exact absurd (he.1 d) (not_le.2 (hd.2 e h))

/-- The first place at which a group is greatest. -/
def firstMax (g : Fin 8 → β) : Fin 8 := (exists_firstMax g).choose

theorem firstMax_spec (g : Fin 8 → β) : IsFirstMax g (firstMax g) := (exists_firstMax g).choose_spec

/-- The group turned so that its first greatest element stands at place 0: place `l` holds what stood `firstMax g`
    places further on, counted around the eight. -/
def aligned (g : Fin 8 → β) (l : Fin 8) : β := g (l + firstMax g)

end First

/-! ## Three rounds of exchange -/

section Spread
variable {α : Type} (f : α → α → α)

/-- One round: every lane combined with the lane whose number differs by the bit `k`. -/
def exchange (k : Fin 8) (h : Fin 8 → α) (l : Fin 8) : α := f (h l) (h (l ^^^ k))

/-- The three rounds at the bits 1, 2 and 4. -/
def spread (h : Fin 8 → α) : Fin 8 → α := exchange f 4 (exchange f 2 (exchange f 1 h))

variable {f} {P : α → Prop} {t : α}

/-- A property that `f` keeps is kept by a round. -/
theorem exchange_keeps (hP : ∀ a b, P a → P b → P (f a b)) {k : Fin 8} {h : Fin 8 → α} (hh : ∀ l, P (h l)) (l : Fin 8) :
    P (exchange f k h l) := hP _ _ (hh _) (hh _)

/-- A round carries an element `t` that absorbs all the others to both lanes of its pair. -/
theorem exchange_absorbs (hl : ∀ a, P a → f a t = t) (hr : ∀ a, P a → f t a = t) {k : Fin 8} {h : Fin 8 → α}
    (hh : ∀ l, P (h l)) {l : Fin 8} (ht : h l = t ∨ h (l ^^^ k) = t) : exchange f k h l = t := by
  rcases ht with e | e
  · simp only [exchange, e]; exact hr _ (hh _)
  · simp only [exchange, e]; exact hl _ (hh _)

/-- Every lane is reached from every other by changing some of the bits 4, 2 and 1. -/
theorem reach : ∀ l d : Fin 8, ((l = d ∨ l ^^^ 1 = d) ∨ (l ^^^ 2 = d ∨ (l ^^^ 2) ^^^ 1 = d)) ∨
    (((l ^^^ 4) = d ∨ (l ^^^ 4) ^^^ 1 = d) ∨ ((l ^^^ 4) ^^^ 2 = d ∨ ((l ^^^ 4) ^^^ 2) ^^^ 1 = d)) := by decide

/-- After the three rounds every lane holds the element that absorbs all the others, if some lane held it at first. -/
theorem spread_eq (hP : ∀ a b, P a → P b → P (f a b)) (hl : ∀ a, P a → f a t = t) (hr : ∀ a, P a → f t a = t)
    {h : Fin 8 → α} (hh : ∀ l, P (h l)) {d : Fin 8} (hd : h d = t) (l : Fin 8) : spread f h l = t := by
  have h1 := exchange_keeps (k := 1) hP hh
  have h2 := exchange_keeps (k := 2) hP h1
  have r0 : ∀ {x}, x = d → h x = t := fun e => e ▸ hd
  have r1 : ∀ {x}, (x = d ∨ x ^^^ 1 = d) → exchange f 1 h x = t := fun e => exchange_absorbs hl hr hh (e.imp r0 r0)
  exact exchange_absorbs hl hr h2 ((reach l d).imp (fun e => exchange_absorbs hl hr h1 (e.imp r1 r1))
    fun e => exchange_absorbs hl hr h1 (e.imp r1 r1))

end Spread

/-- Three rounds of the maximum put the greatest element of a group in every lane. -/
theorem spread_max {β : Type} [LinearOrder β] {g : Fin 8 → β} {d : Fin 8} (hd : ∀ j, g j ≤ g d) (l : Fin 8) :
    spread max g l = g d :=
  spread_eq (P := fun a => a ≤ g d) (fun _ _ => max_le) (fun _ => max_eq_right) (fun _ => max_eq_left) hd rfl l

/-- Three rounds of the signed minimum of words put a least word in every lane. -/
theorem spread_minsi {s : Fin 8 → BitVec 32} {d : Fin 8} (hd : ∀ j, (s j).slt (s d) = false) (l : Fin 8) :
    spread IntOp.minsi s l = s d := by
  refine spread_eq (P := fun a => a.slt (s d) = false) (fun a b ha hb => ?_) (fun a ha => ?_) (fun a ha => ?_) hd rfl l
  · unfold IntOp.minsi; split
    · exact ha
    · exact hb
  · simp [IntOp.minsi, ha]
  · unfold IntOp.minsi; split
    · rfl
    · rename_i h
      simp only [BitVec.slt, decide_eq_false_iff_not, decide_eq_true_eq, not_lt] at ha h
      exact BitVec.eq_of_toInt_eq (le_antisymm h ha)

/-! ## The number of the first greatest lane -/

/-- A lane's score: its own number where its element equals `m`, and 8 elsewhere. -/
def score {β : Type} [DecidableEq β] (g : Fin 8 → β) (m : β) (l : Fin 8) : BitVec 32 :=
  if g l = m then BitVec.ofNat 32 l.val else 8#32

/-- The least score of a group, `m` being its greatest element, is the number of its first greatest lane. -/
theorem spread_score {β : Type} [LinearOrder β] (g : Fin 8 → β) (l : Fin 8) :
    spread IntOp.minsi (score g (g (firstMax g))) l = BitVec.ofNat 32 (firstMax g).val := by
  have hd := firstMax_spec g
  have e : score g (g (firstMax g)) (firstMax g) = BitVec.ofNat 32 (firstMax g).val := if_pos rfl
  rw [← e]
  refine spread_minsi (fun j => ?_) l
  rw [e]; unfold score; split
  · rename_i h
    have hj : firstMax g ≤ j := not_lt.1 fun hlt => absurd h (hd.2 j hlt).ne
    exact (show ∀ d j : Fin 8, d ≤ j → (BitVec.ofNat 32 j.val).slt (BitVec.ofNat 32 d.val) = false by decide) _ _ hj
  · exact (show ∀ d : Fin 8, (8#32).slt (BitVec.ofNat 32 d.val) = false by decide) _

/-! ## Turning a group by a number, bit by bit -/

/-- One conditional turn: the group turned by `k` places where the bit `k` of the lane's word is set. -/
def turn {α : Type} (k : Fin 8) (w : BitVec 32) (g : Fin 8 → α) (l : Fin 8) : α :=
  Scalar.select (IntOp.cmpi .ne (IntOp.andi w (BitVec.ofNat 32 k.val)) 0#32) (g (l + k)) (g l)

/-- Turns by the bits 1, 2 and 4 of the number `d` make a turn by `d`. -/
theorem turn_turn_turn {α : Type} (d : Fin 8) (g : Fin 8 → α) (l : Fin 8) :
    turn 4 (BitVec.ofNat 32 d.val) (turn 2 (BitVec.ofNat 32 d.val) (turn 1 (BitVec.ofNat 32 d.val) g)) l = g (l + d) := by
  fin_cases d <;> fin_cases l <;> rfl

end Cert.Group

end
-- ==== Proof.Rows.lean ====
/-
  Arrays of rows of 4096 lanes, read group by group: lanes 8 q, …, 8 q + 7 of a row are its group `q`. The array with
  every group turned so that its first greatest element comes first is what both programs are shown to compute.
-/
module

public import proofs.«01_k».proof.Proof.Group
public import Idealize.ShloMosaic.Lib.Pointwise

@[expose] public section

noncomputable section

namespace Cert.Rows

open Idealize.ShloMosaic Cert.Group

variable {α : Type} {R : Nat}

/-- Lane `l` of group `q` of row `r`. -/
abbrev lane (r : Fin R) (q : Fin 512) (l : Fin 8) : (⟨2, ![R, 4096]⟩ : Shape).Idx := ix2 r ⟨8 * q.val + l.val, by omega⟩

/-- Every index is a lane of a group of a row. -/
theorem exists_lane (i : (⟨2, ![R, 4096]⟩ : Shape).Idx) : ∃ r q l, i = lane r q l := by
  have h : (i 1).val < 4096 := (i 1).isLt
  refine ⟨i 0, ⟨(i 1).val / 8, by omega⟩, ⟨(i 1).val % 8, by omega⟩, ?_⟩
  exact (eq_ix2 i).trans
    (congrArg (ix2 (i 0)) (Fin.ext (by show (i 1).val = 8 * ((i 1).val / 8) + (i 1).val % 8; omega)))

/-- Group `q` of row `r`. -/
def grp (v : (⟨2, ![R, 4096]⟩ : Shape).Idx → α) (r : Fin R) (q : Fin 512) (l : Fin 8) : α := v (lane r q l)

/-- Arrays with the same groups are the same. -/
theorem ext_grp {v w : (⟨2, ![R, 4096]⟩ : Shape).Idx → α} (h : ∀ r q, grp v r q = grp w r q) : v = w := by
  funext i
  obtain ⟨r, q, l, rfl⟩ := exists_lane i
  exact congrFun (h r q) l

/-- The array with every group turned so that its first greatest element comes first. -/
def alignAll [LinearOrder α] (v : (⟨2, ![R, 4096]⟩ : Shape).Idx → α) (i : (⟨2, ![R, 4096]⟩ : Shape).Idx) : α :=
  aligned (grp v (i 0) ⟨(i 1).val / 8, by have h : (i 1).val < 4096 := (i 1).isLt; omega⟩) ⟨(i 1).val % 8, by omega⟩

/-- Its groups are the turned groups. -/
theorem grp_alignAll [LinearOrder α] (v : (⟨2, ![R, 4096]⟩ : Shape).Idx → α) (r : Fin R) (q : Fin 512) :
    grp (alignAll v) r q = aligned (grp v r q) := by
  funext l
  have hq : (⟨(8 * q.val + l.val) / 8, by omega⟩ : Fin 512) = q := Fin.ext (by dsimp only; omega)
  have hl : (⟨(8 * q.val + l.val) % 8, by omega⟩ : Fin 8) = l := Fin.ext (by dsimp only; omega)
  exact (congrArg (fun q' => aligned (grp v r q') _) hq).trans (congrArg (aligned (grp v r q)) hl)

end Cert.Rows

end
-- ==== Proof.Lanes.lean ====
/-
  The kernel's vectors read group by group. A block has 256 rows of 4096 lanes. The kernel moves a block only by turning its rows as a whole; with the right choice of two turns lane by
  lane, no lane reads outside its own group.
-/
module

public import proofs.«01_k».proof.Proof.Gen.KernelIdeal.Skeleton
public import proofs.«01_k».proof.Proof.Rows

@[expose] public section

noncomputable section

namespace Cert.KernelIdeal.Lanes

open Idealize.ShloMosaic Cert.KernelIdeal.Gen Cert.Group Cert.Rows

variable {α : Type}

/-- The lanes from `k` on, cut out of a block. -/
theorem slices_from {k : Nat} (hk : k ≤ 4096) : S256x4096.Slices ![0, k] ⟨2, ![256, 4096 - k]⟩ :=
  ⟨rfl, fun a => by fin_cases a <;> simp; omega⟩

/-- The first `k` lanes, cut out of a block. -/
theorem slices_first {k : Nat} (hk : k ≤ 4096) : S256x4096.Slices ![0, 0] ⟨2, ![256, k]⟩ :=
  ⟨rfl, fun a => by fin_cases a <;> simp; omega⟩

/-- Both side by side make a block again. -/
theorem concatenates {k : Nat} (hk : k ≤ 4096) :
    Shape.Concatenates [⟨2, ![256, 4096 - k]⟩, ⟨2, ![256, k]⟩] S256x4096 1 :=
  ⟨by simp, fun s hs => by
    simp only [List.mem_cons, List.not_mem_nil, or_false] at hs
    rcases hs with rfl | rfl <;> exact ⟨rfl, fun b hb => by fin_cases b <;> simp_all⟩,
   by simp; omega⟩

/-- A block whose rows are each turned left by `k` lanes: the lanes from `k` on, then the first `k`. -/
def turnRows (k : Nat) (hk : k ≤ 4096) (v : S256x4096.Idx → α) : S256x4096.Idx → α :=
  concatenate S256x4096 1
    [⟨⟨2, ![256, 4096 - k]⟩, extractStridedSlice ⟨2, ![256, 4096 - k]⟩ ![0, k] v (slices_from hk)⟩,
     ⟨⟨2, ![256, k]⟩, extractStridedSlice ⟨2, ![256, k]⟩ ![0, 0] v (slices_first hk)⟩]
    (concatenates hk)

/-- Lane `c` of a row turned left by `k` is lane `c + k` of the row, counted around its 4096 lanes. -/
theorem turnRows_apply (k : Nat) (hk : k ≤ 4096) (v : S256x4096.Idx → α) (r : Fin 256) (c : Fin 4096) :
    turnRows k hk v (ix2 r c) = v (ix2 r ⟨(c.val + k) % 4096, Nat.mod_lt _ (by omega)⟩) := by
  unfold turnRows
  refine (concatenate_pair_apply _ _ _ (concatenates hk) _).trans ?_
  have hc := c.isLt
  split <;> rename_i h
  · have h' : c.val < 4096 - k := h
    refine congrArg v (funext fun a => Fin.ext ?_)
    match a with
    | ⟨0, _⟩ => exact Nat.zero_add _
    | ⟨1, _⟩ => show k + c.val = (c.val + k) % 4096; omega
  · have h' : ¬ c.val < 4096 - k := h
    refine congrArg v (funext fun a => Fin.ext ?_)
    match a with
    | ⟨0, _⟩ => exact Nat.zero_add _
    | ⟨1, _⟩ => show 0 + (c.val - (4096 - k)) = (c.val + k) % 4096; omega

/-- A lane's number within its group, as the kernel computes it. -/
theorem number_apply (r : Fin 256) (q : Fin 512) (l : Fin 8) : k0_pay2 (lane r q l) = BitVec.ofNat 32 l.val := by
  have e : k0_pay2 (lane r q l) = BitVec.ofNat 32 (8 * q.val + l.val) &&& 7#32 := by
    pointwise [k0_pay2]
    rfl
  rw [e]
  refine BitVec.eq_of_toNat_eq ?_
  rw [BitVec.toNat_and, BitVec.toNat_ofNat, BitVec.toNat_ofNat, BitVec.toNat_ofNat,
    show 7 % 2 ^ 32 = 2 ^ 3 - 1 from rfl, Nat.and_two_pow_sub_one_eq_mod]
  omega

/-- The lanes where the bit `k` of the lane's number is clear. -/
abbrev clear (k : Nat) : IVec S256x4096 1 :=
  cmpi .eq (andi k0_pay2 (broadcast S256x4096 (BitVec.ofNat 32 k))) (broadcast S256x4096 0#32)

/-- Every lane's partner at the bit `k`: to the left where the bit is clear, to the right where it is set. -/
def partner (k : Nat) (hk : k ≤ 4096) (v : S256x4096.Idx → α) : S256x4096.Idx → α :=
  select (clear k) (turnRows k hk v) (turnRows (4096 - k) (Nat.sub_le _ _) v)

/-- The partner at a bit 1, 2 or 4 is in the lane's own group. -/
theorem partner_apply (k : Fin 8) (hk : k = 1 ∨ k = 2 ∨ k = 4) (h : k.val ≤ 4096) (v : S256x4096.Idx → α) (r : Fin 256)
    (q : Fin 512) (l : Fin 8) : partner k.val h v (lane r q l) = grp v r q (l ^^^ k) := by
  show Scalar.select (IntOp.cmpi .eq (IntOp.andi (k0_pay2 (lane r q l)) (BitVec.ofNat 32 k.val)) 0#32) _ _ = _
  have hx := (show ∀ k l : Fin 8, k = 1 ∨ k = 2 ∨ k = 4 →
    IntOp.cmpi .eq (IntOp.andi (BitVec.ofNat 32 l.val) (BitVec.ofNat 32 k.val)) 0#32 = 1 ∧ (l ^^^ k).val = l.val + k.val ∨
    IntOp.cmpi .eq (IntOp.andi (BitVec.ofNat 32 l.val) (BitVec.ofNat 32 k.val)) 0#32 ≠ 1 ∧ (l ^^^ k).val + k.val = l.val
    by decide) k l hk
  rw [number_apply, turnRows_apply, turnRows_apply]
  rcases hx with ⟨hc, hl⟩ | ⟨hc, hl⟩
  · rw [Scalar.select, if_pos hc]
    refine congrArg v (congrArg (ix2 r) (Fin.ext ?_))
    show (8 * q.val + l.val + k.val) % 4096 = 8 * q.val + (l ^^^ k).val
    omega
  · rw [Scalar.select, if_neg hc]
    refine congrArg v (congrArg (ix2 r) (Fin.ext ?_))
    show (8 * q.val + l.val + (4096 - k.val)) % 4096 = 8 * q.val + (l ^^^ k).val
    omega

/-- Each group turned left by `k` of its own lanes: the row turned left by `k` where lane and `k` together stay
    below 8, and turned right by `8 - k` where they do not. -/
def turnGroups (k : Nat) (hk : k ≤ 8) (v : S256x4096.Idx → α) : S256x4096.Idx → α :=
  select (cmpi .slt k0_pay2 (broadcast S256x4096 (BitVec.ofNat 32 (8 - k)))) (turnRows k (by omega) v)
    (turnRows (4096 - (8 - k)) (Nat.sub_le _ _) v)

/-- Such a turn reads within the group. -/
theorem turnGroups_apply (k : Fin 8) (h : k.val ≤ 8) (v : S256x4096.Idx → α) (r : Fin 256) (q : Fin 512) (l : Fin 8) :
    turnGroups k.val h v (lane r q l) = grp v r q (l + k) := by
  show Scalar.select (IntOp.cmpi .slt (k0_pay2 (lane r q l)) (BitVec.ofNat 32 (8 - k.val))) _ _ = _
  have hx := (show ∀ k l : Fin 8,
    IntOp.cmpi .slt (BitVec.ofNat 32 l.val) (BitVec.ofNat 32 (8 - k.val)) = 1 ∧ (l + k).val = l.val + k.val ∨
    IntOp.cmpi .slt (BitVec.ofNat 32 l.val) (BitVec.ofNat 32 (8 - k.val)) ≠ 1 ∧ (l + k).val + 8 = l.val + k.val
    by decide) k l
  rw [number_apply, turnRows_apply, turnRows_apply]
  rcases hx with ⟨hc, hl⟩ | ⟨hc, hl⟩
  · rw [Scalar.select, if_pos hc]
    refine congrArg v (congrArg (ix2 r) (Fin.ext ?_))
    show (8 * q.val + l.val + k.val) % 4096 = 8 * q.val + (l + k).val
    omega
  · rw [Scalar.select, if_neg hc]
    refine congrArg v (congrArg (ix2 r) (Fin.ext ?_))
    show (8 * q.val + l.val + (4096 - (8 - k.val))) % 4096 = 8 * q.val + (l + k).val
    omega

end Cert.KernelIdeal.Lanes

end
-- ==== Proof.Block.lean ====
/-
  What one block of the kernel's result is: at lane `l` of each group, the group's element `d` places further on,
  counted around the eight lanes, `d` being the first lane at which the group is greatest.
-/
module

public import proofs.«01_k».proof.Proof.Lanes

@[expose] public section

noncomputable section

namespace Cert.KernelIdeal.Block

open Idealize.ShloMosaic Cert.KernelIdeal.Gen Cert.Group Cert.Rows Cert.KernelIdeal.Lanes

/-! ## The kernel's vectors, in the words of `Lanes` -/

section Spelling
variable {α : Type}

/-- One round of exchange over a whole block. -/
def round (f : α → α → α) (k : Nat) (hk : k ≤ 4096) (v : S256x4096.Idx → α) : S256x4096.Idx → α :=
  fun i => f (v i) (partner k hk v i)

/-- The three rounds over a whole block. -/
def rounds (f : α → α → α) (v : S256x4096.Idx → α) : S256x4096.Idx → α :=
  round f 4 (by decide) (round f 2 (by decide) (round f 1 (by decide) v))

/-- Over each group they are the three rounds of a group. -/
theorem grp_rounds (f : α → α → α) (v : S256x4096.Idx → α) (r : Fin 256) (q : Fin 512) :
    grp (rounds f v) r q = spread f (grp v r q) := by
  have one : ∀ (k : Fin 8) (hk : k = 1 ∨ k = 2 ∨ k = 4) (h : k.val ≤ 4096) (w : S256x4096.Idx → α),
      grp (round f k.val h w) r q = exchange f k (grp w r q) := fun k hk h w =>
    funext fun l => congrArg (f (w (lane r q l))) (partner_apply k hk h w r q l)
  unfold spread
  rw [← one 1 (by decide) (by decide), ← one 2 (by decide) (by decide), ← one 4 (by decide) (by decide)]
  rfl

/-- One conditional turn over a whole block: turned by `k` where the lane's word has the bit `k`. -/
def turnWhere (k : Nat) (hk : k ≤ 8) (w : IVec S256x4096 32) (v : S256x4096.Idx → α) : S256x4096.Idx → α :=
  select (cmpi .ne (andi w (broadcast S256x4096 (BitVec.ofNat 32 k))) (broadcast S256x4096 0#32)) (turnGroups k hk v) v

/-- Over a group whose lanes all hold the word `d` it is the turn of the group. -/
theorem grp_turnWhere (k : Fin 8) (hk : k.val ≤ 8) {w : IVec S256x4096 32} (v : S256x4096.Idx → α) {r : Fin 256} {q : Fin 512}
    {d : BitVec 32} (hw : ∀ l, grp w r q l = d) : grp (turnWhere k.val hk w v) r q = turn k d (grp v r q) := by
  funext l
  show Scalar.select (IntOp.cmpi .ne (IntOp.andi (grp w r q l) _) 0#32) (turnGroups k.val hk v (lane r q l)) _ = _
  rw [hw, turnGroups_apply]
  rfl

end Spelling

/-- The greatest element of each group, in each of its lanes. -/
abbrev greatest (x : FVec Ideal S256x4096 .f32) : FVec Ideal S256x4096 .f32 :=
  rounds (fun a b : Ideal .f32 => FloatOps.maximumf a b) x

/-- The scores of a block: a lane's number where its element equals its group's greatest, and 8 elsewhere. -/
abbrev scores (x : FVec Ideal S256x4096 .f32) : IVec S256x4096 32 :=
  select (cmpf .oeq x (greatest x)) k0_pay2 (broadcast S256x4096 8#32)

/-- The least score of each group, in each of its lanes. -/
abbrev least (x : FVec Ideal S256x4096 .f32) : IVec S256x4096 32 := rounds IntOp.minsi (scores x)

/-- The block the kernel stores. -/
abbrev stored (x : FVec Ideal S256x4096 .f32) : FVec Ideal S256x4096 .f32 :=
  k0_pay1 k0_pay2 (k0_pay5 k0_pay2 (k0_pay3 (F := Ideal) x) k0_pay4) (k0_pay6 (F := Ideal) x k0_pay2 (k0_pay3 (F := Ideal) x) k0_pay4)
    (k0_pay7 k0_pay2 (k0_pay3 (F := Ideal) x) k0_pay4) 6#32

theorem scores_eq (x : FVec Ideal S256x4096 .f32) : k0_pay3 (F := Ideal) x = scores x := rfl

theorem least_eq (s : IVec S256x4096 32) : k0_pay5 k0_pay2 s k0_pay4 = rounds IntOp.minsi s := rfl

/-- The stored block is the loaded one turned three times by its least scores. -/
theorem stored_eq (x : FVec Ideal S256x4096 .f32) : stored x =
    turnWhere 4 (by decide) (least x) (turnWhere 2 (by decide) (least x) (turnWhere 1 (by decide) (least x) x)) := by
  rw [least, ← least_eq, ← scores_eq]
  rfl

/-- The least score of a group is the number of its first greatest lane. -/
theorem grp_least (x : FVec Ideal S256x4096 .f32) (r : Fin 256) (q : Fin 512) (l : Fin 8) :
    grp (least x) r q l = BitVec.ofNat 32 (firstMax (grp x r q)).val := by
  have e : grp (scores x) r q = score (grp x r q) (grp x r q (firstMax (grp x r q))) := by
    funext l
    show Scalar.select (FloatOps.cmpf .oeq (grp x r q l) (grp (greatest x) r q l)) (k0_pay2 (lane r q l)) 8#32 = _
    have hm : grp (greatest x) r q l = grp x r q (firstMax (grp x r q)) := by
      rw [grp_rounds]
      exact spread_max (firstMax_spec (grp x r q)).1 l
    rw [number_apply, hm, Ideal.cmpf_def]
    by_cases h : grp x r q l = grp x r q (firstMax (grp x r q)) <;> simp [Ideal.cmp, Scalar.select, score, h]
  rw [least, grp_rounds, e, spread_score]

/-- The block the kernel stores is the loaded block with every group turned so that its first greatest element comes
    first. -/
theorem stored_eq_alignAll (x : FVec Ideal S256x4096 .f32) : stored x = alignAll x := by
  refine ext_grp fun r q => ?_
  have hw := grp_least x r q
  rw [stored_eq, grp_alignAll]
  refine Eq.trans ?_ (funext (turn_turn_turn (firstMax (grp x r q)) (grp x r q)))
  rw [← grp_turnWhere 1 (by decide) x hw, ← grp_turnWhere 2 (by decide) _ hw, ← grp_turnWhere 4 (by decide) _ hw]
  rfl

end Cert.KernelIdeal.Block

end
-- ==== Proof.KernelArray.lean ====
/-
  The kernel's whole result array: each of the 64 grid points writes 256 rows, and together they are the argument with
  every group turned so that its first greatest element comes first.
-/
module

public import proofs.«01_k».proof.Proof.Gen.KernelIdeal.Value
public import proofs.«01_k».proof.Proof.Block
public import Idealize.ShloMosaic.Lib.Pipeline.ValueKit

@[expose] public section

noncomputable section

namespace Cert.KernelIdeal.Whole

open Idealize.ShloMosaic Idealize.ShloMosaic.TcCoe Idealize.SL.Sem
open Cert.KernelIdeal Cert.KernelIdeal.Gen Cert.Group Cert.Rows Cert.KernelIdeal.Block

variable (m : (ℓ : Loc nD τ sig) → Buf (Elt Ideal) ℓ) (ρ : Dev nD → PrngReg)

/-- Device `c`'s argument, as an array of extended reals. -/
abbrev arg (c : Dev nD) : FVec Ideal S16384x4096 .f32 := m ((c : Thread nD τ).loc main_arg0)

/-- The argument with every group turned so that its first greatest element comes first. -/
abbrev result (c : Dev nD) : Buf (Elt Ideal) ((c : Thread nD τ).loc main_v0) :=
  alignAll (α := Ideal .f32) (arg m c)

/-- The loads and the store start at the block's corner. -/
theorem corner : (![0, 0] : Fin 2 → Nat) = fun _ => 0 := funext fun a => by fin_cases a <;> rfl

/-- Point `t`'s block is at rows 256 t, …, over all lanes. -/
theorem index_eq : ∀ t : Fin cfg0.N, win0_1.index t 0 = t.val ∧ win0_1.index t 1 = 0 :=
  (by decide +kernel : ∀ t : Fin grid0.N, win0_1.index t 0 = t.val ∧ win0_1.index t 1 = 0)

/-- Row `r` of point `t`'s block, as a row of the array. -/
abbrev row (t : Fin cfg0.N) (r : Fin 256) : Fin 16384 := ⟨256 * t.val + r.val, by have := t.isLt; have : cfg0.N = 64 := N_0; omega⟩

/-- Lane `l` of group `q` of row `r` of the block is that lane of that row in the array. -/
theorem emb_lane (t : Fin cfg0.N) (r : Fin 256) (q : Fin 512) (l : Fin 8) :
    (win0_1.blk t).view.emb (lane r q l) = lane (row t r) q l := by
  refine funext fun a => Fin.ext ?_
  refine (ValueKit.view_emb_slice_whole_unit_val main_v0 _ _ _ (lane r q l) a).trans ?_
  match a with
  | ⟨0, _⟩ =>
    show win0_1.index t 0 * 256 + r.val = 256 * t.val + r.val
    rw [(index_eq t).1, Nat.mul_comm]
  | ⟨1, _⟩ =>
    show win0_1.index t 1 * 4096 + (8 * q.val + l.val) = 8 * q.val + l.val
    rw [(index_eq t).2]; omega

/-- What point `t` writes back is its block of the result. -/
theorem flushed_eq (c : Dev nD) (t : Fin cfg0.N) :
    (dats m 0 c).flushed 1 t = (win0_1.blk t).view.read (Elt Ideal) (result m c) := by
  rw [Value.flushed1]
  unfold out0_1 k0_pay8 k0_pay9 k0_pay10
  rw [View.canon_unit_zero corner, View.ld_unit_zero corner]
  show stored (iblk m c 0 t) = _
  rw [stored_eq_alignAll]
  refine ext_grp fun r q => ?_
  have hb : grp (iblk m c 0 t) r q = grp (arg m c) (row t r) q := funext fun l => congrArg (arg m c) (emb_lane t r q l)
  have hr : grp ((win0_1.blk t).view.read (Elt Ideal) (result m c)) r q = grp (alignAll (α := Ideal .f32) (arg m c)) (row t r) q :=
    funext fun l => congrArg (alignAll (α := Ideal .f32) (arg m c)) (emb_lane t r q l)
  rw [grp_alignAll, hb, ← grp_alignAll, ← hr]

/-- Every index of the array is in a block that is written back. -/
theorem cover (i : S16384x4096.Idx) :
    ∃ t : Fin cfg0.N, (cfg0.win 1).flush t = true ∧ i ∈ ((cfg0.win 1).blk t).view.set :=
  Pipeline.Window.Covers.cover win0_1 (by decide +kernel) (Memref.isWhole_whole _) i

/-- The result array after the run. -/
theorem final_eq (c : Dev nD) : (dats m 0 c).arrAt 1 cfg0.N = result m c :=
  (dats m 0 c).arrAt_eq_of_cover 1 (result m c) (fun t _ => flushed_eq m c t) cover

/-- The kernel's run: the result array holds the turned argument, and the argument is unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final_eq m c), (h c).2⟩) (Value.run_blocks m ρ)

end Cert.KernelIdeal.Whole

end
-- ==== Proof.RefRun.lean ====
/-
  What the reference stores, as one expression in its argument: the array cut into groups of eight, the place of each
  group's first greatest element, the places to read, and the elements read there.
-/
module

public import proofs.«01_k».proof.Proof.Gen.ReferenceIdeal
public import Idealize.ShloMosaic.Lib.Claim
public import Idealize.ShloMosaic.PureOps.Ideal

@[expose] public section

noncomputable section

namespace Cert.ReferenceIdeal.Whole

open Idealize.ShloMosaic Idealize.ShloMosaic.TcCoe Idealize.SL.Sem
open Cert.ReferenceIdeal Cert.ReferenceIdeal.Gen

/-- The array with its lanes cut into groups of eight. -/
def groups (x : FVec Ideal S16384x4096 .f32) : FVec Ideal S16384x512x8 .f32 :=
  shapeCast S16384x512x8 x shapeCasts_S16384x4096_S16384x512x8

/-- Each group's first greatest element and its place. -/
def best (y : FVec Ideal S16384x512x8 .f32) : S16384x512.Idx → Ideal .f32 × BitVec 32 :=
  Host.argReduce reducer_argmax_f32_i32 y (iotaInDim S16384x512x8 32 2) (constant (F := Ideal) S_ .f32 0xFF800000#32)
    (constantI S_ 32 0#32) reducesTo_S16384x512x8_S16384x512_d2 h_S_

/-- The second halves of an array of pairs. -/
def seconds {s : Shape} {α β : Type} (b : s.Idx → α × β) (j : s.Idx) : β := (b j).2

/-- The place of each group's first greatest element. -/
def places (y : FVec Ideal S16384x512x8 .f32) : IVec S16384x512 32 := seconds (best y)

/-- The number 0, …, 7 of every lane within its group, plus its group's place. -/
def sums (d : IVec S16384x512 32) : IVec S16384x512x8 32 :=
  addi
    (broadcastInDim S16384x512x8 ![0, 1, 2] bcast_S1x1x8_S16384x512x8_0_1_2
      (broadcastInDim S1x1x8 ![2] bcast_S8_S1x1x8_2 (iotaInDim S8 32 0)))
    (broadcastInDim S16384x512x8 ![0, 1, 2] bcast_S16384x512x1_S16384x512x8_0_1_2
      (broadcastInDim S16384x512x1 ![0, 1] bcast_S16384x512_S16384x512x1_0_1 d))

/-- One word in every lane. -/
abbrev everywhere {α : Type} (b : S_.Idx → α) : S16384x512x8.Idx → α :=
  broadcastInDim S16384x512x8 ![] bcast_S_S16384x512x8 b

/-- The divisor of the remainder: 1 in place of 0. -/
def divisor (b : IVec S_ 32) : IVec S_ 32 := select (cmpi .eq b (constantI S_ 32 0#32)) (constantI S_ 32 1#32) b

/-- The remainder of truncating division. -/
def truncated (a : IVec S16384x512x8 32) (b : IVec S_ 32) : IVec S16384x512x8 32 :=
  Host.remsi a (everywhere (divisor b))

/-- The remainder with the divisor's sign. -/
def remainder (a : IVec S16384x512x8 32) (b : IVec S_ 32) : IVec S16384x512x8 32 :=
  select
    (andi
      (cmpi .ne (cmpi .slt (truncated a b) (everywhere (constantI S_ 32 0#32)))
        (everywhere (cmpi .slt (divisor b) (constantI S_ 32 0#32))))
      (cmpi .ne (truncated a b) (everywhere (constantI S_ 32 0#32))))
    (addi (truncated a b) (everywhere (divisor b)))
    (truncated a b)

/-- The places to read, those below zero counted from the end. -/
def wrapped (p : IVec S16384x512x8 32) : IVec S16384x512x8x1 32 :=
  shapeCast S16384x512x8x1
    (select (cmpi .slt p (everywhere (constantI S_ 32 0#32))) (addi p (everywhere (constantI S_ 32 8#32))) p)
    shapeCasts_S16384x512x8_S16384x512x8x1

/-- Whether a place is inside a group. -/
def inside (i : IVec S16384x512x8x1 32) : IVec S16384x512x8 1 :=
  Host.reduce IntOp.andi
    (andi (cmpi .sge i (broadcastInDim S16384x512x8x1 ![] bcast_S_S16384x512x8x1 (constantI S_ 32 0#32)))
      (cmpi .sle i
        (broadcastInDim S16384x512x8x1 ![0, 1, 2, 3] bcast_S1x1x1x1_S16384x512x8x1_0_1_2_3
          (broadcastInDim S1x1x1x1 ![3] bcast_S1_S1x1x1x1_3 (constantI S1 32 7#32)))))
    (constantI S_ 1 1#1) reducesTo_S16384x512x8x1_S16384x512x8_d3 h_S_

/-- The elements at the given places of their groups. -/
def taken (y : FVec Ideal S16384x512x8 .f32) (p : IVec S16384x512x8 32) : FVec Ideal S16384x512x8 .f32 :=
  select (inside (wrapped p))
    (Host.gather gather_S16384x512x8_S16384x512x8x1_S16384x512x8_n_2_01_01_2_3_111 y (wrapped p))
    (everywhere (constant (F := Ideal) S_ .f32 0x7FC00000#32))

/-- The array the reference stores. -/
def stored (x : FVec Ideal S16384x4096 .f32) : FVec Ideal S16384x4096 .f32 :=
  shapeCast S16384x4096
    (taken (groups x) (remainder (sums (places (groups x))) (constantI S_ 32 8#32)))
    shapeCasts_S16384x512x8_S16384x4096

variable (m : (ℓ : Loc nD τ sig) → Buf (Elt Ideal) ℓ) (ρ : Dev nD → PrngReg)

/-- The reference's argument on a device. -/
abbrev arg (c : Dev nD) : FVec Ideal S16384x4096 .f32 := m ((c : Thread nD τ).loc main_arg0)

/-- The reference leaves that expression of its argument in its result and its argument as it was. -/
theorem run : θ_run defs (onTc (τ := τ) (main (F := Ideal))) ⟨m, fun _ => 0, ρ⟩ fun r => ∀ c : Dev nD,
      r.2.mem ((c : Thread nD τ).loc main_v10) = stored (arg m c)
      ∧ r.2.mem ((c : Thread nD τ).loc main_arg0) = m ((c : Thread nD τ).loc main_arg0) := by
  hlo_run
  · simp -implicitDefEqProofs only [StableHlo.TRef.toBuf, StableHlo.TRef.ofBuf, cast_cast, cast_eq]
    unfold stored
    rfl

end Cert.ReferenceIdeal.Whole

end
-- ==== Proof.RefFold.lean ====
/-
  The place of a group's first greatest element, as the reference finds it: a fold over the group's (element, place)
  pairs that keeps the greater element, and of two equal ones the lesser place.
-/
module

public import proofs.«01_k».proof.Proof.RefRun
public import proofs.«01_k».proof.Proof.Group
public import Idealize.ShloMosaic.PureOps.Ideal.Laws
public import Idealize.ShloMosaic.PureOps.Reduce
public import Idealize.ShloMosaic.Lib.Pointwise

@[expose] public section

noncomputable section

namespace Cert.ReferenceIdeal.Fold

open Idealize.ShloMosaic
open Cert.ReferenceIdeal Cert.ReferenceIdeal.Gen Cert.ReferenceIdeal.Whole Cert.Group

/-- Places below eight compare as their words do. -/
theorem slt_ofNat (i j : Fin 8) : (BitVec.ofNat 32 i.val).slt (BitVec.ofNat 32 j.val) = decide (i < j) := by
  revert i j; decide

/-- The fold's step on two pairs: the first is kept if its element is greater, or the elements are equal and its place
    is less. -/
theorem step (a b : EReal) (i j : Fin 8) :
    reducer_argmax_f32_i32 (F := Ideal) (a, BitVec.ofNat 32 i.val) (b, BitVec.ofNat 32 j.val)
      = if b < a ∨ a = b ∧ i < j then (a, BitVec.ofNat 32 i.val) else (b, BitVec.ofNat 32 j.val) := by
  simp only [reducer_argmax_f32_i32, Ideal.cmpf_def, Ideal.cmp, IntOp.cmpi, slt_ofNat, IntOp.ori, IntOp.andi, Scalar.select]
  rcases lt_trichotomy a b with h | rfl | h
  · simp [h, h.not_gt, h.ne]
  · by_cases h' : i < j <;> simp [h']
  · simp [h, h.ne']

/-- A pair that is the best of the places `L` seen so far: its place is some `d` whose element is at least its element,
    and every place seen holds something no greater, with `d` not after those that hold as much. -/
def Best (g : Fin 8 → EReal) (L : List (Fin 8)) (p : EReal × BitVec 32) : Prop :=
  ∃ d : Fin 8, p.2 = BitVec.ofNat 32 d.val ∧ p.1 ≤ g d ∧ ∀ i ∈ L, g i ≤ p.1 ∧ (g i = p.1 → d ≤ i)

/-- One more step of the fold keeps this. -/
theorem Best.step {g : Fin 8 → EReal} {L : List (Fin 8)} {p : EReal × BitVec 32} (hp : Best g L p) (j : Fin 8) :
    Best g (L ++ [j]) (reducer_argmax_f32_i32 (F := Ideal) p (g j, BitVec.ofNat 32 j.val)) := by
  obtain ⟨a, w⟩ := p
  obtain ⟨d, rfl, hd, hL⟩ := hp
  rw [Fold.step]
  split <;> rename_i h
  · refine ⟨d, rfl, hd, fun i hi => ?_⟩
    rcases List.mem_append.1 hi with hi | hi
    · exact hL i hi
    · obtain rfl := List.mem_singleton.1 hi
      rcases h with h | ⟨h, hlt⟩
      · exact ⟨h.le, fun e => absurd e h.ne⟩
      · exact ⟨h.ge, fun _ => hlt.le⟩
  · simp only [not_or, not_and, not_lt] at h
    refine ⟨j, rfl, le_rfl, fun i hi => ?_⟩
    rcases List.mem_append.1 hi with hi | hi
    · refine ⟨(hL i hi).1.trans h.1, fun e => (h.2 ?_).trans ((hL i hi).2 ?_)⟩
      · exact le_antisymm h.1 (e.ge.trans (hL i hi).1)
      · exact le_antisymm (hL i hi).1 (h.1.trans e.ge)
    · obtain rfl := List.mem_singleton.1 hi
      exact ⟨le_rfl, fun _ => le_rfl⟩

/-- The whole fold keeps it. -/
theorem Best.foldl {g : Fin 8 → EReal} (M : List (Fin 8)) : ∀ {L : List (Fin 8)} {p : EReal × BitVec 32}, Best g L p →
    Best g (L ++ M) ((M.map fun j => (g j, BitVec.ofNat 32 j.val)).foldl (reducer_argmax_f32_i32 (F := Ideal)) p) := by
  induction M with
  | nil => intro L p hp; simpa using hp
  | cons j M ih => intro L p hp; simpa using ih (hp.step j)

/-- The best of all places is the first greatest one. -/
theorem Best.eq_firstMax {g : Fin 8 → EReal} {L : List (Fin 8)} {p : EReal × BitVec 32} (hp : Best g L p)
    (hL : ∀ j, j ∈ L) : p.2 = BitVec.ofNat 32 (firstMax g).val := by
  obtain ⟨d, e, hd, h⟩ := hp
  have hF : IsFirstMax g d := ⟨fun j => (h j (hL j)).1.trans hd, fun j hj =>
    lt_of_le_of_ne ((h j (hL j)).1.trans hd) fun e' =>
      not_le.2 hj ((h j (hL j)).2 (le_antisymm (h j (hL j)).1 (e' ▸ hd)))⟩
  rw [e, hF.unique (firstMax_spec g)]

/-- The pairs that reduce into one index, where these are the pairs at `e l`, one for every `l`: a list of them all. -/
theorem fiber_eq {α β ι : Type} {s t : Shape} {axes : List (Fin s.rank)} (x : s.Idx → α) (y : s.Idx → β)
    (h : s.ReducesTo axes t) (j : t.Idx) (e : ι → s.Idx) (c : s.Idx → ι) (hd : ∀ i, h.drop i = j → i = e (c i))
    (he : ∀ l, h.drop (e l) = j) (hc : ∀ l, c (e l) = l) :
    ∃ L : List ι, (∀ l, l ∈ L) ∧ Host.argReduceFiber x y h j = L.map fun l => (x (e l), y (e l)) := by
  refine ⟨((List.finRange s.numel).filter fun k => h.drop (s.rowMajor.symm k) = j).map fun k => c (s.rowMajor.symm k),
    fun l => ?_, ?_⟩
  · refine List.mem_map.2 ⟨s.rowMajor (e l), List.mem_filter.2 ⟨List.mem_finRange _, ?_⟩, ?_⟩
    · rw [Equiv.symm_apply_apply]
      exact decide_eq_true (he l)
    · rw [Equiv.symm_apply_apply, hc]
  · rw [Host.argReduceFiber, List.map_map]
    refine List.map_congr_left fun k hk => ?_
    exact congrArg (fun i => (x i, y i)) (hd _ (of_decide_eq_true (List.mem_filter.1 hk).2))

/-- A float arg-max at one index, over the extended reals: the fold over the pairs that reduce into that index. -/
theorem argReduce_apply {s t u : Shape} {axes : List (Fin s.rank)} {β : Type}
    (f : Ideal .f32 × β → Ideal .f32 × β → Ideal .f32 × β) (x : FVec Ideal s .f32) (y : s.Idx → β)
    (ix : FVec Ideal u .f32) (iy : u.Idx → β) (h : s.ReducesTo axes t) (hu : 0 < u.numel) (j : t.Idx) :
    Host.argReduce f x y ix iy h hu j
      = (Host.argReduceFiber x y h j).foldl f (ix (Shape.Idx.first hu), iy (Shape.Idx.first hu)) :=
  (congrFun (Ideal.argReduce_eq_reduce2 f x y ix iy h hu) j).trans (Host.reduce2_eq_foldl_fiber f x y ix iy h hu j)

/-- An element reduces into `(n, q)` exactly if it lies in group `q` of row `n`. -/
theorem drop_eq_iff (i : S16384x512x8.Idx) (n : Fin 16384) (q : Fin 512) :
    reducesTo_S16384x512x8_S16384x512_d2.drop i = ix2 n q ↔ i = ix3 n q (i 2) := by
  have h0 : (reducesTo_S16384x512x8_S16384x512_d2.drop i 0).val = (i 0).val := rfl
  have h1 : (reducesTo_S16384x512x8_S16384x512_d2.drop i 1).val = (i 1).val := rfl
  constructor
  · intro e
    refine (eq_ix3 i).trans ?_
    rw [e] at h0 h1
    have e0 : i 0 = n := Fin.ext h0.symm
    have e1 : i 1 = q := Fin.ext h1.symm
    exact congrArg₂ (fun a b => ix3 a b (i 2)) e0 e1
  · intro e
    funext a
    refine Fin.ext ?_
    match a with
    | ⟨0, _⟩ => exact h0.trans (congrArg (fun k : S16384x512x8.Idx => (k 0).val) e)
    | ⟨1, _⟩ => exact h1.trans (congrArg (fun k : S16384x512x8.Idx => (k 1).val) e)

/-- The pairs of group `q` of row `n`, in some order. -/
theorem fiber_group (y : FVec Ideal S16384x512x8 .f32) (n : Fin 16384) (q : Fin 512) :
    ∃ L : List (Fin 8), (∀ l, l ∈ L) ∧
      Host.argReduceFiber y (iotaInDim S16384x512x8 32 2) reducesTo_S16384x512x8_S16384x512_d2 (ix2 n q)
        = L.map fun l => (y (ix3 n q l), BitVec.ofNat 32 l.val) :=
  fiber_eq y (iotaInDim S16384x512x8 32 2) reducesTo_S16384x512x8_S16384x512_d2 (ix2 n q)
    (fun l : Fin 8 => ix3 n q l) (fun i => i 2) (fun i => (drop_eq_iff i n q).1) (fun l => (drop_eq_iff _ n q).2 rfl)
    (fun _ => rfl)

/-- The pair found for one group, as that fold. -/
theorem best_eq_foldl (y : FVec Ideal S16384x512x8 .f32) (j : S16384x512.Idx) :
    best y j
      = (Host.argReduceFiber y (iotaInDim S16384x512x8 32 2) reducesTo_S16384x512x8_S16384x512_d2 j).foldl
          reducer_argmax_f32_i32
          (constant (F := Ideal) S_ .f32 0xFF800000#32 (Shape.Idx.first h_S_), constantI S_ 32 0#32 (Shape.Idx.first h_S_)) :=
  argReduce_apply reducer_argmax_f32_i32 y (iotaInDim S16384x512x8 32 2) (constant (F := Ideal) S_ .f32 0xFF800000#32)
    (constantI S_ 32 0#32) reducesTo_S16384x512x8_S16384x512_d2 h_S_ j

/-- The pair the fold starts from is the best of no places: nothing is less than its element, and its place is the first. -/
theorem best_nil (g : Fin 8 → EReal) :
    Best g [] (constant (F := Ideal) S_ .f32 0xFF800000#32 (Shape.Idx.first h_S_), constantI S_ 32 0#32 (Shape.Idx.first h_S_)) := by
  have h : Ideal.ofBits .f32 0xFF800000#32 = ⊥ := by simp [Ideal.ofBits, Ideal.ieee]
  exact ⟨0, rfl, (le_of_eq h).trans bot_le, fun _ hi => absurd hi List.not_mem_nil⟩

/-- A second half, given as that of its pair. -/
theorem seconds_eq {s : Shape} {α β : Type} (b : s.Idx → α × β) (j : s.Idx) {w : β} (h : (b j).2 = w) : seconds b j = w := h

/-- The reference's place for group `q` of row `n` is the first place at which that group is greatest. -/
theorem places_apply (y : FVec Ideal S16384x512x8 .f32) (n : Fin 16384) (q : Fin 512) :
    places y (ix2 n q) = BitVec.ofNat 32 (firstMax (β := EReal) fun l => y (ix3 n q l)).val := by
  obtain ⟨L, hL, e⟩ := fiber_group y n q
  have h : Best (fun l => y (ix3 n q l)) ([] ++ L) (best y (ix2 n q)) := by
    rw [best_eq_foldl, e]
    exact (best_nil fun l => y (ix3 n q l)).foldl L
  exact seconds_eq (best y) (ix2 n q) (h.eq_firstMax hL)

end Cert.ReferenceIdeal.Fold

end
-- ==== Proof.RefTake.lean ====
/-
  The reference's reads: lane `l` of a group whose first greatest element is at place `d` reads place `l + d`, counted
  around the eight.
-/
module

public import proofs.«01_k».proof.Proof.RefRun
public import Idealize.ShloMosaic.Lib.Pointwise
public import Idealize.ShloMosaic.Lib.ReduceAll

@[expose] public section

noncomputable section

namespace Cert.ReferenceIdeal.Take

open Idealize.ShloMosaic
open Cert.ReferenceIdeal Cert.ReferenceIdeal.Gen Cert.ReferenceIdeal.Whole

/-- A lane's sum is its number plus its group's place. -/
theorem sums_apply (d : IVec S16384x512 32) (n : Fin 16384) (q : Fin 512) (l : Fin 8) :
    sums d (ix3 n q l) = BitVec.ofNat 32 l.val + d (ix2 n q) := by
  pointwise [sums]
  rfl

/-- The remainder of one word by eight, with the sign of eight. -/
def remainder8 (w : BitVec 32) : BitVec 32 :=
  Scalar.select (IntOp.andi (IntOp.cmpi .ne (IntOp.cmpi .slt (IntOp.remsi .host w 8#32) 0#32) 0#1)
    (IntOp.cmpi .ne (IntOp.remsi .host w 8#32) 0#32)) (IntOp.remsi .host w 8#32 + 8#32) (IntOp.remsi .host w 8#32)

/-- The remainder by eight is taken word by word. -/
theorem remainder_apply (a : IVec S16384x512x8 32) (i : S16384x512x8.Idx) :
    remainder a (constantI S_ 32 8#32) i = remainder8 (a i) := rfl

/-- For the sum of two places it is the place counted around the eight. -/
theorem remainder8_add (l d : Fin 8) :
    remainder8 (BitVec.ofNat 32 l.val + BitVec.ofNat 32 d.val) = BitVec.ofNat 32 (l + d).val := by
  revert l d
  decide

/-! ## The gather -/

/-- The gather's dimension numbers. -/
abbrev dims := gather_S16384x512x8_S16384x512x8x1_S16384x512x8_n_2_01_01_2_3_111

/-- On the rows and the groups, which are batching axes, the gather reads where it writes. -/
theorem coord_batching (idx : IVec S16384x512x8x1 32) (j : S16384x512x8.Idx) (a : Fin 3) (ha : a ∈ dims.operandBatchingDims) :
    (dims.operandIdx j idx a).val = dims.batchCoord j a := by
  show dims.start j idx a + dims.batchCoord j a + dims.offCoord j a = _
  rw [GatherDims.start_batching _ _ _ _ ha,
    GatherDims.offCoord_eq_zero _ _ _ (fun h => ((GatherDims.mem_sKept _ _).mp h).2 ha), Nat.zero_add, Nat.add_zero]

/-- Within a group it reads at the given place, a word read with its sign and held to 0, …, 7. -/
theorem coord_place (idx : IVec S16384x512x8x1 32) (n : Fin 16384) (q : Fin 512) (l : Fin 8) :
    (dims.operandIdx (ix3 n q l) idx (2 : Fin 3)).val = min (idx (ix4 n q l 0)).toInt.toNat 7 := by
  have hm : (2 : Fin 3) ∈ dims.startIndexMap := List.mem_singleton.mpr rfl
  have hs : dims.siIdx (ix3 n q l) ⟨dims.startIndexMap.idxOf 2, List.idxOf_lt_length_iff.2 hm⟩ = ix4 n q l 0 := by
    funext b
    refine Fin.ext ?_
    match b with
    | ⟨0, _⟩ => rfl
    | ⟨1, _⟩ => rfl
    | ⟨2, _⟩ => rfl
    | ⟨3, _⟩ => rfl
  show dims.start (ix3 n q l) idx 2 + dims.batchCoord (ix3 n q l) 2 + dims.offCoord (ix3 n q l) 2 = _
  rw [GatherDims.batchCoord_eq_zero _ _ _ (show (2 : Fin 3) ∉ [(0 : Fin 3), 1] by decide),
    GatherDims.offCoord_eq_zero _ _ _ (fun h => ((GatherDims.mem_sKept _ _).mp h).1 (List.mem_singleton.mpr rfl)),
    Nat.add_zero]
  unfold GatherDims.start
  rw [dif_pos hm, hs]
  rfl

/-- A place of a group is held to itself. -/
theorem held (k : Fin 8) : min (BitVec.ofNat 32 k.val).toInt.toNat 7 = k.val := by
  revert k
  decide

/-- The element the gather reads for lane `l` of a group. -/
theorem gather_apply (y : FVec Ideal S16384x512x8 .f32) (idx : IVec S16384x512x8x1 32) (n : Fin 16384) (q : Fin 512)
    (l k : Fin 8) (hk : idx (ix4 n q l 0) = BitVec.ofNat 32 k.val) :
    Host.gather dims y idx (ix3 n q l) = y (ix3 n q k) := by
  refine congrArg y (funext fun a => Fin.ext ?_)
  match a with
  | ⟨0, _⟩ => exact (coord_batching idx _ 0 (show (0 : Fin 3) ∈ [(0 : Fin 3), 1] by decide)).trans rfl
  | ⟨1, _⟩ => exact (coord_batching idx _ 1 (show (1 : Fin 3) ∈ [(0 : Fin 3), 1] by decide)).trans rfl
  | ⟨2, _⟩ =>
    refine (coord_place idx n q l).trans ?_
    rw [hk]
    exact held k

/-! ## The elements taken -/

section Taken
variable (p : IVec S16384x512x8 32) (k : Fin 16384 → Fin 512 → Fin 8 → Fin 8)

/-- Places of a group are read as they are. -/
theorem wrapped_apply (hp : ∀ n q l, p (ix3 n q l) = BitVec.ofNat 32 (k n q l).val) (n : Fin 16384) (q : Fin 512)
    (l : Fin 8) (o : Fin 1) : wrapped p (ix4 n q l o) = BitVec.ofNat 32 (k n q l).val := by
  have e : wrapped p (ix4 n q l o) = Scalar.select (IntOp.cmpi .slt (p (ix3 n q l)) 0#32) (p (ix3 n q l) + 8#32) (p (ix3 n q l)) := by
    pointwise [wrapped]
    rfl
  rw [e, hp]
  generalize k n q l = j
  revert j
  decide

/-- They are all inside their groups. -/
theorem inside_eq_one (hp : ∀ n q l, p (ix3 n q l) = BitVec.ofNat 32 (k n q l).val) (j : S16384x512x8.Idx) :
    inside (wrapped p) j = 1#1 := by
  refine Host.reduce_andi_one _ _ _ _ j rfl fun i => ?_
  have e : wrapped p i = BitVec.ofNat 32 (k (i 0) (i 1) (i 2)).val :=
    (congrArg (wrapped p) (eq_ix4 i)).trans (wrapped_apply p k hp (i 0) (i 1) (i 2) (i 3))
  show IntOp.andi (IntOp.cmpi .sge (wrapped p i) 0#32) (IntOp.cmpi .sle (wrapped p i) 7#32) = 1#1
  rw [e]
  generalize k (i 0) (i 1) (i 2) = j
  revert j
  decide

/-- Where the condition is 1, a choice is the first array's element. -/
theorem select_of_one {s : Shape} {α : Type} (c : IVec s 1) (a b : s.Idx → α) {i : s.Idx} (h : c i = 1#1) :
    select c a b i = a i := if_pos h

/-- What a lane takes is the element at its place. -/
theorem taken_apply (hp : ∀ n q l, p (ix3 n q l) = BitVec.ofNat 32 (k n q l).val) (y : FVec Ideal S16384x512x8 .f32)
    (n : Fin 16384) (q : Fin 512) (l : Fin 8) : taken y p (ix3 n q l) = y (ix3 n q (k n q l)) := by
  have h : taken y p (ix3 n q l) = Host.gather dims y (wrapped p) (ix3 n q l) :=
    select_of_one (inside (wrapped p)) _ _ (inside_eq_one p k hp (ix3 n q l))
  exact h.trans (gather_apply y (wrapped p) n q l _ (wrapped_apply p k hp n q l 0))

end Taken

end Cert.ReferenceIdeal.Take

end
-- ==== Proof.RefArray.lean ====
/-
  The reference's whole result array: its argument with every group turned so that its first greatest element comes
  first.
-/
module

public import proofs.«01_k».proof.Proof.RefFold
public import proofs.«01_k».proof.Proof.RefTake
public import proofs.«01_k».proof.Proof.Rows

@[expose] public section

noncomputable section

namespace Cert.ReferenceIdeal.Whole

open Idealize.ShloMosaic
open Cert.ReferenceIdeal Cert.ReferenceIdeal.Gen Cert.Group Cert.Rows

/-- The array cut into groups holds the array's groups. -/
theorem groups_apply (x : FVec Ideal S16384x4096 .f32) (n : Fin 16384) (q : Fin 512) (l : Fin 8) :
    groups x (ix3 n q l) = grp x n q l := by
  refine shapeCast_apply x _ _ (lane n q l) ?_
  simp only [Shape.rowMajor_val_two, Shape.rowMajor_val_three]
  show n.val * 4096 + (8 * q.val + l.val) = (n.val * 512 + q.val) * 8 + l.val
  omega

/-- The place lane `l` of a group reads: `l` past its first greatest element, counted around the eight. -/
theorem place_apply (x : FVec Ideal S16384x4096 .f32) (n : Fin 16384) (q : Fin 512) (l : Fin 8) :
    remainder (sums (places (groups x))) (constantI S_ 32 8#32) (ix3 n q l)
      = BitVec.ofNat 32 (l + firstMax (β := EReal) (grp x n q)).val := by
  rw [Take.remainder_apply, Take.sums_apply, Fold.places_apply, Take.remainder8_add]
  rw [show (fun l => groups x (ix3 n q l)) = grp x n q from funext (groups_apply x n q)]

/-- The reference stores its argument with every group turned so that its first greatest element comes first. -/
theorem stored_eq_alignAll (x : FVec Ideal S16384x4096 .f32) : stored x = alignAll (α := Ideal .f32) x := by
  refine ext_grp fun n q => ?_
  rw [grp_alignAll]
  funext l
  refine (shapeCast_apply _ _ (lane n q l) (ix3 n q l) ?_).trans ?_
  · simp only [Shape.rowMajor_val_two, Shape.rowMajor_val_three]
    show (n.val * 512 + q.val) * 8 + l.val = n.val * 4096 + (8 * q.val + l.val)
    omega
  · exact (Take.taken_apply _ (fun n q l => l + firstMax (β := EReal) (grp x n q)) (place_apply x) _ n q l).trans
      (groups_apply x n q _)

end Cert.ReferenceIdeal.Whole

end
-- ==== Proof.lean ====
/-
  The proof of `Cert.Claim`: the three programs end as they must, and kernel and reference compute the same array. What
  each computes is in `Proof/KernelArray.lean` and `Proof/RefArray.lean`; here the two meet.
-/
module

public import proofs.«01_k».proof.Defs
public import proofs.«01_k».proof.Proof.Gen.Kernel.Frame
public import proofs.«01_k».proof.Proof.Gen.KernelIdeal.Frame
public import proofs.«01_k».proof.Proof.KernelArray
public import proofs.«01_k».proof.Proof.RefArray
public import Idealize.ShloMosaic.Lib.Quiescent

@[expose] public section

noncomputable section

namespace Cert.Proof

open Idealize.ShloMosaic Idealize.SL.Sem

/-- The kernel ends with its argument unchanged and every counter at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Whole.run m ρ)

/-- From equal arguments kernel and reference store the same array: the argument with every group of eight turned so
    that its first greatest element comes first. -/
theorem equal_results : Cert.algebraic_KernelIdeal_ReferenceIdeal := fun m ρ m' ρ' _ agree =>
  ⟨fun c => Cert.KernelIdeal.Whole.result m c, Cert.KernelIdeal.Whole.run m ρ,
    (θ_run Cert.ReferenceIdeal.defs _ _).mono
      (fun _ h c => ⟨((h c).1.trans (Cert.ReferenceIdeal.Whole.stored_eq_alignAll _)).trans
        (congrArg (Cert.Rows.alignAll (α := Ideal .f32)) (agree c)), (h c).2⟩)
      (Cert.ReferenceIdeal.Whole.run m' ρ')⟩

/-- All the claims together. -/
theorem claim : Cert.Claim :=
  ⟨Cert.Kernel.Gen.facts, Cert.KernelIdeal.Gen.facts, Cert.ReferenceIdeal.Gen.facts,
    frame_kernel, frame_kernelIdeal, frame_referenceIdeal, trivial, equal_results⟩

end Cert.Proof

end
